-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192 : Shape := ⟨2, ![4, 8192]⟩
abbrev S8192x768 : Shape := ⟨2, ![8192, 768]⟩
abbrev S4x8192x768 : Shape := ⟨3, ![4, 8192, 768]⟩
abbrev S1024x768 : Shape := ⟨2, ![1024, 768]⟩
abbrev S4x1024x768 : Shape := ⟨3, ![4, 1024, 768]⟩
abbrev S1x1024x768 : Shape := ⟨3, ![1, 1024, 768]⟩

abbrev nBuf : Space → Nat
  | .hbm => 3
  | .vmem => 4
  | .smem => 0
  | _ => 0

abbrev bufTy : (tb : Table) → Fin (tcTables nBuf tb) → BufTy
  | .hbm, ⟨0, _⟩ => ⟨S4x8192, .i32⟩
  | .hbm, ⟨1, _⟩ => ⟨S8192x768, .f32⟩
  | .hbm, ⟨2, _⟩ => ⟨S4x8192x768, .f32⟩
  | .local _ .vmem, ⟨0, _⟩ => ⟨S1024x768, .f32⟩
  | .local _ .vmem, ⟨1, _⟩ => ⟨S1024x768, .f32⟩
  | .local _ .vmem, ⟨2, _⟩ => ⟨S4x1024x768, .f32⟩
  | .local _ .vmem, ⟨3, _⟩ => ⟨S4x1024x768, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4x8192 : Shape := ⟨2, ![4, 8192]⟩
abbrev S8192x768 : Shape := ⟨2, ![8192, 768]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x768 : Shape := ⟨3, ![1, 8192, 768]⟩
abbrev S4x8192x768 : Shape := ⟨3, ![4, 8192, 768]⟩

abbrev nBuf : Space → Nat
  | .hbm => 31
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x768, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S1x1, .i32⟩
  | .hbm, ⟨19, _⟩ => ⟨S8192x1, .i32⟩
  | .hbm, ⟨20, _⟩ => ⟨S8192x1, .i1⟩
  | .hbm, ⟨21, _⟩ => ⟨S8192x1, .i1⟩
  | .hbm, ⟨22, _⟩ => ⟨S_, .i1⟩
  | .hbm, ⟨23, _⟩ => ⟨S8192, .i1⟩
  | .hbm, ⟨24, _⟩ => ⟨S8192x768, .f32⟩
  | .hbm, ⟨25, _⟩ => ⟨S8192x768, .i1⟩
  | .hbm, ⟨26, _⟩ => ⟨S_, .f32⟩
  | .hbm, ⟨27, _⟩ => ⟨S8192x768, .f32⟩
  | .hbm, ⟨28, _⟩ => ⟨S8192x768, .f32⟩
  | .hbm, ⟨29, _⟩ => ⟨S1x8192x768, .f32⟩
  | .hbm, ⟨30, _⟩ => ⟨S4x8192x768, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.Rows.lean ====
/-
  The mathematics of the certificate, naming neither program: the table of rows repeated over the batch (`overBatch`), and
  the proof that taking rows 0, 1, …, 8191 of an 8192-row table, with the wrapping of negative positions and the
  filling of positions out of range that `jnp.take` writes out, then repeating the result, is exactly that.
-/
module

public import Idealize.ShloMosaic.Lib.Routing.Ops
public import Idealize.ShloMosaic.Lib.ReduceAll
public import Idealize.ShloMosaic.Lib.WordCmp

@[expose] public section

noncomputable section

namespace Cert.Proof.Rows

open Idealize.ShloMosaic Idealize.ShloMosaic.ValueIdx

/-- A table of 8192 rows and 768 columns. -/
abbrev STable : Shape := ⟨2, ![8192, 768]⟩
/-- Four copies of such a table. -/
abbrev SBatch : Shape := ⟨3, ![4, 8192, 768]⟩
/-- One word for each row. -/
abbrev SRows : Shape := ⟨1, ![8192]⟩
/-- One word for each row, as a column. -/
abbrev SCol : Shape := ⟨2, ![8192, 1]⟩
/-- A scalar. -/
abbrev SScalar : Shape := ⟨0, ![]⟩

/-- The table repeated over the batch: entry `(b, r, e)` is the table's entry `(r, e)`, whatever `b` is. -/
def overBatch {α : Type} (w : STable.Idx → α) : SBatch.Idx → α :=
  fun y => w (ix2 (n0 := 8192) (n1 := 768) (y 1) (y 2))

/-! ## The positions -/

/-- The positions `0 + arange(8192)`, as words. -/
abbrev positions (b₀ : SScalar.BroadcastsInDim SRows ![]) : IVec SRows 32 :=
  addi (broadcastInDim SRows ![] b₀ (constantI SScalar 32 0#32)) (iotaInDim SRows 32 0)

/-- The positions with 8192 added to the negative ones, as a column: the start indices of the gather. -/
abbrev starts (b₀ : SScalar.BroadcastsInDim SRows ![]) (b₁ : SRows.BroadcastsInDim SCol ![0]) : IVec SCol 32 :=
  broadcastInDim SCol ![0] b₁
    (select (cmpi .slt (positions b₀) (broadcastInDim SRows ![] b₀ (constantI SScalar 32 0#32)))
      (addi (positions b₀) (broadcastInDim SRows ![] b₀ (constantI SScalar 32 8192#32))) (positions b₀))

/-- Position `r` is the word of `r`. -/
theorem positions_apply (b₀ : SScalar.BroadcastsInDim SRows ![]) (r : SRows.Idx) :
    positions b₀ r = BitVec.ofNat 32 (r 0).val := by
  show (0#32 : BitVec 32) + BitVec.ofNat 32 (r 0).val = _
  exact BitVec.zero_add _

/-- No position is negative, so the start index of row `r` is the word of `r`. -/
theorem starts_apply (b₀ : SScalar.BroadcastsInDim SRows ![]) (b₁ : SRows.BroadcastsInDim SCol ![0]) (i : SCol.Idx) :
    starts b₀ b₁ i = BitVec.ofNat 32 (i 0).val := by
  have hi : (i 0).val < 8192 := (i 0).isLt
  refine (broadcastInDim_apply _ b₁ _ i (ix1 (n := 8192) (i 0)) fun a => ?_).trans ?_
  · match a with
    | ⟨0, _⟩ => rfl
  · show Scalar.select (IntOp.cmpi .slt (positions b₀ (ix1 (n := 8192) (i 0))) 0#32) _ (positions b₀ (ix1 (n := 8192) (i 0))) = _
    rw [positions_apply, (WordCmp.cmpi_slt_ofNat_eq_zero_iff (w := 32) (a := (i 0).val) (b := 0) (by omega) (by omega)).mpr (by omega)]
    exact select_zero _ _

/-- Every start index is at least 0 and at most 8191: the row of the table exists. -/
theorem inRange_apply (b₀ : SScalar.BroadcastsInDim SRows ![]) (b₁ : SRows.BroadcastsInDim SCol ![0])
    (lo hi : IVec SCol 32) (hlo : ∀ i, lo i = 0#32) (hhi : ∀ i, hi i = 8191#32) (i : SCol.Idx) :
    andi (cmpi .sge (starts b₀ b₁) lo) (cmpi .sle (starts b₀ b₁) hi) i = 1#1 := by
  have h : (i 0).val < 8192 := (i 0).isLt
  show IntOp.andi (IntOp.cmpi .sge (starts b₀ b₁ i) (lo i)) (IntOp.cmpi .sle (starts b₀ b₁ i) (hi i)) = 1#1
  rw [hlo, hhi, starts_apply,
    (WordCmp.cmpi_sge_ofNat_eq_one_iff (w := 32) (a := (i 0).val) (b := 0) (by omega) (by omega)).mpr (by omega),
    (WordCmp.cmpi_sle_ofNat_eq_one_iff (w := 32) (a := (i 0).val) (b := 8191) (by omega) (by omega)).mpr (by omega)]
  rfl

/-! ## The rows -/

/-- Taking the rows at the positions gives the table itself: the gather reads row `r` at row `r`, and the fill that
    stands in for rows out of range (`fill`, whatever it holds) is never chosen. -/
theorem take_apply {α : Type} (d : GatherDims STable SCol STable) (hoff : d.offsetDims = [1])
    (hcoll : d.collapsedSliceDims = [0]) (hob : d.operandBatchingDims = []) (hsim : d.startIndexMap = [0])
    (hivd : d.indexVectorDim = 1)
    (b₀ : SScalar.BroadcastsInDim SRows ![]) (b₁ : SRows.BroadcastsInDim SCol ![0]) (b₂ : SRows.BroadcastsInDim STable ![0])
    (hr : SCol.ReducesTo [1] SRows) (hu : 0 < SScalar.numel) (lo hi : IVec SCol 32) (hlo : ∀ i, lo i = 0#32)
    (hhi : ∀ i, hi i = 8191#32) (w fill : STable.Idx → α) (y : STable.Idx) :
    select (broadcastInDim STable ![0] b₂ (Host.reduce IntOp.andi
        (andi (cmpi .sge (starts b₀ b₁) lo) (cmpi .sle (starts b₀ b₁) hi)) (constantI SScalar 1 1#1) hr hu))
      (Host.gather d w (starts b₀ b₁)) fill y = w y := by
  have hmask (j : SRows.Idx) : Host.reduce IntOp.andi (andi (cmpi .sge (starts b₀ b₁) lo) (cmpi .sle (starts b₀ b₁) hi))
      (constantI SScalar 1 1#1) hr hu j = 1#1 :=
    Host.reduce_andi_one _ _ hr hu j rfl (inRange_apply b₀ b₁ lo hi hlo hhi)
  rw [select_apply]
  unfold broadcastInDim
  rw [hmask, select_one, eq_ix2 y]
  exact Routing.gather_row d hoff hcoll hob hsim hivd w _ (y 0) (y 1) (y 0) (starts_apply b₀ b₁ _) (by decide)

/-- The whole reference: the rows taken at the positions, given a leading axis and repeated four times along it, are the
    table over the batch. -/
theorem reference_eq {α : Type} (d : GatherDims STable SCol STable) (hoff : d.offsetDims = [1])
    (hcoll : d.collapsedSliceDims = [0]) (hob : d.operandBatchingDims = []) (hsim : d.startIndexMap = [0])
    (hivd : d.indexVectorDim = 1)
    (b₀ : SScalar.BroadcastsInDim SRows ![]) (b₁ : SRows.BroadcastsInDim SCol ![0]) (b₂ : SRows.BroadcastsInDim STable ![0])
    (b₃ : STable.BroadcastsInDim ⟨3, ![1, 8192, 768]⟩ ![1, 2]) (b₄ : (⟨3, ![1, 8192, 768]⟩ : Shape).BroadcastsInDim SBatch ![0, 1, 2])
    (hr : SCol.ReducesTo [1] SRows) (hu : 0 < SScalar.numel) (lo hi : IVec SCol 32) (hlo : ∀ i, lo i = 0#32)
    (hhi : ∀ i, hi i = 8191#32) (w fill : STable.Idx → α) :
    broadcastInDim SBatch ![0, 1, 2] b₄ (broadcastInDim ⟨3, ![1, 8192, 768]⟩ ![1, 2] b₃
      (select (broadcastInDim STable ![0] b₂ (Host.reduce IntOp.andi
          (andi (cmpi .sge (starts b₀ b₁) lo) (cmpi .sle (starts b₀ b₁) hi)) (constantI SScalar 1 1#1) hr hu))
        (Host.gather d w (starts b₀ b₁)) fill)) = overBatch w := by
  funext y
  refine (broadcastInDim_apply _ b₄ _ y (ix3 (n0 := 1) (n1 := 8192) (n2 := 768) 0 (y 1) (y 2)) fun a => ?_).trans ?_
  · match a with
    | ⟨0, _⟩ => rfl
    | ⟨1, _⟩ => rfl
    | ⟨2, _⟩ => rfl
  refine (broadcastInDim_apply _ b₃ _ _ (ix2 (n0 := 8192) (n1 := 768) (y 1) (y 2)) fun a => ?_).trans ?_
  · match a with
    | ⟨0, _⟩ => rfl
    | ⟨1, _⟩ => rfl
  exact take_apply d hoff hcoll hob hsim hivd b₀ b₁ b₂ hr hu lo hi hlo hhi w fill _

end Cert.Proof.Rows

end
-- ==== Proof.KernelIdealTable.lean ====
/-
  What the idealized kernel leaves in its result array: the table over the batch.
-/
module

public import proofs.«01_k».proof.Proof.Gen.KernelIdeal.Value
public import proofs.«01_k».proof.Proof.Rows
public import Idealize.ShloMosaic.Lib.Pipeline.ValueKit

@[expose] public section

set_option maxRecDepth 16384

noncomputable section

namespace Cert.KernelIdeal.Table

open Cert.KernelIdeal Cert.KernelIdeal.Gen Idealize.ShloMosaic Idealize.ShloMosaic.TcCoe Idealize.SL.Sem
open Idealize.ShloMosaic.ValueIdx Cert.Proof.Rows

variable {F : FTy → Type} [FloatOps F]
variable (m : (ℓ : Loc nD τ sig) → Buf (Elt F) ℓ) (ρ : Dev nD → PrngReg)

/-- Point `t` reads the block of rows `t` of the table and writes the block of rows `t` of every copy. -/
theorem idx : ∀ t : Fin grid0.N, win0_0.index t = ![t.val, 0] ∧ win0_1.index t = ![0, t.val, 0] := by
  decide +kernel

/-- The eight blocks cover the result, and each holds the rows of the table that the points read: the result array is
    the table over the batch. -/
theorem final (c : Dev nD) :
    (dats m 0 c).arrAt 1 cfg0.N = overBatch (m ((c : Thread nD τ).loc main_arg1)) := by
  refine (dats m 0 c).arrAt_eq_of_covers 1 _ (by decide +kernel) fun t hf y => ?_
  blk_simp
  rw [after0_1]
  frame_out
  rw [Value.piece1_0]
  show iblk m c 0 t _ = m ((c : Thread nD τ).loc main_arg1) _
  blk_ext [iblk, V, (idx t).1]
  · show t.val * 1024 + (0 + 1 * (y 1).val) = ((((cfg0.win 1).blk t).view.emb y) 1 : ℕ)
    blk_simp [(idx t).2]
  · show 0 + 1 * (y 2).val = ((((cfg0.win 1).blk t).view.emb y) 2 : ℕ)
    blk_simp [(idx t).2]

/-- The run: the result array at the table over the batch, the arguments unchanged. -/
theorem run : θ_run defs (onTc (τ := τ) (main (F := F))) ⟨m, fun _ => 0, ρ⟩ fun r => ∀ c : Dev nD,
      r.2.mem ((c : Thread nD τ).loc main_v0) = overBatch (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Table

end
-- ==== Proof.ReferenceTable.lean ====
/-
  What the reference leaves in its result array: the table over the batch.
-/
module

public import proofs.«01_k».proof.Proof.Gen.Reference.Run
public import proofs.«01_k».proof.Proof.Rows

@[expose] public section

noncomputable section

namespace Cert.Reference.Table

open Cert.Reference Cert.Reference.Gen Idealize.ShloMosaic Idealize.ShloMosaic.TcCoe Idealize.SL.Sem
open Cert.Proof.Rows

variable {F : FTy → Type} [FloatOps F]
variable (m : (ℓ : Loc nD τ sig) → Buf (Elt F) ℓ) (ρ : Dev nD → PrngReg)

/-- The run: the result array at the table over the batch, the arguments unchanged. -/
theorem run : θ_run defs (onTc (τ := τ) (main (F := F))) ⟨m, fun _ => 0, ρ⟩ fun r => ∀ c : Dev nD,
      r.2.mem ((c : Thread nD τ).loc main_v5) = overBatch (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
      (reference_eq gather_S8192x768_S8192x1_S8192x768_1_0_n_n_0_1_1768 rfl rfl rfl rfl rfl bcast_S_S8192
        bcast_S8192_S8192x1_0 bcast_S8192_S8192x768_0 bcast_S8192x768_S1x8192x768_1_2
        bcast_S1x8192x768_S4x8192x768_0_1_2 reducesTo_S8192x1_S8192_d1 h_S_ _ _ (fun _ => rfl) (fun _ => rfl) _ _),
      (h c).2⟩) (Value.run m ρ)

end Cert.Reference.Table

end
-- ==== Proof.ReferenceIdealTable.lean ====
/-
  What the idealized reference leaves in its result array: the table over the batch.
-/
module

public import proofs.«01_k».proof.Proof.Gen.ReferenceIdeal.Run
public import proofs.«01_k».proof.Proof.Rows

@[expose] public section

noncomputable section

namespace Cert.ReferenceIdeal.Table

open Cert.ReferenceIdeal Cert.ReferenceIdeal.Gen Idealize.ShloMosaic Idealize.ShloMosaic.TcCoe Idealize.SL.Sem
open Cert.Proof.Rows

variable {F : FTy → Type} [FloatOps F]
variable (m : (ℓ : Loc nD τ sig) → Buf (Elt F) ℓ) (ρ : Dev nD → PrngReg)

/-- The run: the result array at the table over the batch, the arguments unchanged. -/
theorem run : θ_run defs (onTc (τ := τ) (main (F := F))) ⟨m, fun _ => 0, ρ⟩ fun r => ∀ c : Dev nD,
      r.2.mem ((c : Thread nD τ).loc main_v5) = overBatch (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
      (reference_eq gather_S8192x768_S8192x1_S8192x768_1_0_n_n_0_1_1768 rfl rfl rfl rfl rfl bcast_S_S8192
        bcast_S8192_S8192x1_0 bcast_S8192_S8192x768_0 bcast_S8192x768_S1x8192x768_1_2
        bcast_S1x8192x768_S4x8192x768_0_1_2 reducesTo_S8192x1_S8192_d1 h_S_ _ _ (fun _ => rfl) (fun _ => rfl) _ _),
      (h c).2⟩) (Value.run m ρ)

end Cert.ReferenceIdeal.Table

end
-- ==== Proof.lean ====
/-
  The claims. Kernel and reference, at either instance, both leave the table over the batch (`Rows.overBatch`) in their
  result array: the kernel by its eight blocks (`KernelTable`, `KernelIdealTable`), the reference by taking the rows at
  the positions 0, 1, …, 8191 (`ReferenceTable`, `ReferenceIdealTable`, over `Rows.reference_eq`). So they agree over the
  extended reals and word by word.
-/
module

public import proofs.«01_k».proof.Defs
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.KernelTable
public import proofs.«01_k».proof.Proof.KernelIdealTable
public import proofs.«01_k».proof.Proof.ReferenceTable
public import proofs.«01_k».proof.Proof.ReferenceIdealTable
public import Idealize.ShloMosaic.Lib.Quiescent

@[expose] public section

noncomputable section

namespace Cert.Proof

open Idealize.ShloMosaic Idealize.SL.Sem

/-- The kernel terminates without fault, its arguments unchanged and every counter at zero. -/
theorem frame_kernel : Cert.quiescent_Kernel := fun m ρ _ => Cert.Kernel.Gen.frame m ρ

/-- So does the idealized kernel. -/
theorem frame_kernelIdeal : Cert.quiescent_KernelIdeal := fun m ρ _ => Cert.KernelIdeal.Gen.frame m ρ

/-- The reference leaves its arguments unchanged; it has no semaphore. -/
theorem frame_reference : Cert.quiescent_Reference := fun m ρ _ =>
  (θ_run Cert.Reference.defs _ _).mono
    (fun r h => ⟨fun c => (h c).2, sem_eq_zero_of_no_sems (by decide) r.2⟩) (Cert.Reference.Table.run m ρ)

/-- So does the idealized reference. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Table.run m ρ)

/-- Over the extended reals both results are the table over the batch. -/
theorem algebraic : Cert.algebraic_KernelIdeal_ReferenceIdeal := by
  intro m ρ m' ρ' _ hagree
  refine ⟨fun c => Rows.overBatch (m (c.tc.loc Cert.KernelIdeal.main_arg1)), Cert.KernelIdeal.Table.run m ρ, ?_⟩
  exact (θ_run Cert.ReferenceIdeal.defs _ _).mono
    (fun _ h c => ⟨(h c).1.trans (congrArg Rows.overBatch (hagree c).2), (h c).2⟩) (Cert.ReferenceIdeal.Table.run m' ρ')

/-- And word by word. -/
theorem bitexact : Cert.bitexact_Kernel_Reference := by
  intro m ρ m' ρ' _ hagree
  refine ⟨fun c => Rows.overBatch (m (c.tc.loc Cert.Kernel.main_arg1)), Cert.Kernel.Table.run m ρ, ?_⟩
  exact (θ_run Cert.Reference.defs _ _).mono
    (fun _ h c => ⟨(h c).1.trans (congrArg Rows.overBatch (hagree c).2), (h c).2⟩) (Cert.Reference.Table.run m' ρ')

/-- Every claim of the certificate; the idealization rewrote nothing, so that it preserves the kernel is `True`. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
